-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S65536x2 : Shape := ⟨2, ![65536, 2]⟩
abbrev S2x1024 : Shape := ⟨2, ![2, 1024]⟩
abbrev S1024 : Shape := ⟨1, ![1024]⟩
abbrev S1024x512 : Shape := ⟨2, ![1024, 512]⟩
abbrev S512 : Shape := ⟨1, ![512]⟩
abbrev S1024x2 : Shape := ⟨2, ![1024, 2]⟩
abbrev S2 : Shape := ⟨1, ![2]⟩
abbrev S2x65536 : Shape := ⟨2, ![2, 65536]⟩
abbrev S512x1024 : Shape := ⟨2, ![512, 1024]⟩
abbrev S1024x1 : Shape := ⟨2, ![1024, 1]⟩
abbrev S512x1 : Shape := ⟨2, ![512, 1]⟩
abbrev S2x1 : Shape := ⟨2, ![2, 1]⟩
abbrev S512x65536 : Shape := ⟨2, ![512, 65536]⟩
abbrev S3x65536 : Shape := ⟨2, ![3, 65536]⟩
abbrev S2x8192 : Shape := ⟨2, ![2, 8192]⟩
abbrev S512x8192 : Shape := ⟨2, ![512, 8192]⟩
abbrev S3x8192 : Shape := ⟨2, ![3, 8192]⟩
abbrev S1x8192 : Shape := ⟨2, ![1, 8192]⟩
abbrev S1024x8192 : Shape := ⟨2, ![1024, 8192]⟩

abbrev nBuf : Space → Nat
  | .hbm => 18
  | .vmem => 12
  | .smem => 0
  | _ => 0

abbrev bufTy : (tb : Table) → Fin (tcTables nBuf tb) → BufTy
  | .hbm, ⟨0, _⟩ => ⟨S65536x2, .f32⟩
  | .hbm, ⟨1, _⟩ => ⟨S2x1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S1024x2, .f32⟩
  | .hbm, ⟨6, _⟩ => ⟨S2, .f32⟩
  | .hbm, ⟨7, _⟩ => ⟨S2x65536, .f32⟩
  | .hbm, ⟨8, _⟩ => ⟨S1024x2, .f32⟩
  | .hbm, ⟨9, _⟩ => ⟨S512x1024, .f32⟩
  | .hbm, ⟨10, _⟩ => ⟨S512x1024, .bf16⟩
  | .hbm, ⟨11, _⟩ => ⟨S2x1024, .f32⟩
  | .hbm, ⟨12, _⟩ => ⟨S2x1024, .bf16⟩
  | .hbm, ⟨13, _⟩ => ⟨S1024x1, .f32⟩
  | .hbm, ⟨14, _⟩ => ⟨S512x1, .f32⟩
  | .hbm, ⟨15, _⟩ => ⟨S2x1, .f32⟩
  | .hbm, ⟨16, _⟩ => ⟨S512x65536, .f32⟩
  | .hbm, ⟨17, _⟩ => ⟨S3x65536, .f32⟩
  | .local _ .vmem, ⟨0, _⟩ => ⟨S2x8192, .f32⟩
  | .local _ .vmem, ⟨1, _⟩ => ⟨S2x8192, .f32⟩
  | .local _ .vmem, ⟨2, _⟩ => ⟨S1024x2, .f32⟩
  | .local _ .vmem, ⟨3, _⟩ => ⟨S1024x1, .f32⟩
  | .local _ .vmem, ⟨4, _⟩ => ⟨S512x1024, .bf16⟩
  | .local _ .vmem, ⟨5, _⟩ => ⟨S512x1, .f32⟩
  | .local _ .vmem, ⟨6, _⟩ => ⟨S2x1024, .bf16⟩
  | .local _ .vmem, ⟨7, _⟩ => ⟨S2x1, .f32⟩
  | .local _ .vmem, ⟨8, _⟩ => ⟨S512x8192, .f32⟩
  | .local _ .vmem, ⟨9, _⟩ => ⟨S512x8192, .f32⟩
  | .local _ .vmem, ⟨10, _⟩ => ⟨S3x8192, .f32⟩
  | .local _ .vmem, ⟨11, _⟩ => ⟨S3x8192, .f32⟩
  | _, _ => ⟨S65536x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S65536x2 : Shape := ⟨2, ![65536, 2]⟩
abbrev S2x1024 : Shape := ⟨2, ![2, 1024]⟩
abbrev S1024 : Shape := ⟨1, ![1024]⟩
abbrev S1024x512 : Shape := ⟨2, ![1024, 512]⟩
abbrev S512 : Shape := ⟨1, ![512]⟩
abbrev S1024x2 : Shape := ⟨2, ![1024, 2]⟩
abbrev S2 : Shape := ⟨1, ![2]⟩
abbrev S65536x1 : Shape := ⟨2, ![65536, 1]⟩
abbrev S65536 : Shape := ⟨1, ![65536]⟩
abbrev S_ : Shape := ⟨0, ![]⟩
abbrev S65536x1024 : Shape := ⟨2, ![65536, 1024]⟩
abbrev S1x1024 : Shape := ⟨2, ![1, 1024]⟩
abbrev S65536x512 : Shape := ⟨2, ![65536, 512]⟩
abbrev S1x512 : Shape := ⟨2, ![1, 512]⟩
abbrev S512x65536 : Shape := ⟨2, ![512, 65536]⟩
abbrev S1x2 : Shape := ⟨2, ![1, 2]⟩
abbrev S2x65536 : Shape := ⟨2, ![2, 65536]⟩
abbrev S1x65536 : Shape := ⟨2, ![1, 65536]⟩
abbrev S3x65536 : Shape := ⟨2, ![3, 65536]⟩

abbrev nBuf : Space → Nat
  | .hbm => 67
  | .vmem => 0
  | .smem => 0
  | _ => 0

abbrev bufTy : (tb : Table) → Fin (tcTables nBuf tb) → BufTy
  | .hbm, ⟨0, _⟩ => ⟨S65536x2, .f32⟩
  | .hbm, ⟨1, _⟩ => ⟨S2x1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S1024x2, .f32⟩
  | .hbm, ⟨6, _⟩ => ⟨S2, .f32⟩
  | .hbm, ⟨7, _⟩ => ⟨S65536x1, .f32⟩
  | .hbm, ⟨8, _⟩ => ⟨S65536, .f32⟩
  | .hbm, ⟨9, _⟩ => ⟨S65536x1, .f32⟩
  | .hbm, ⟨10, _⟩ => ⟨S65536, .f32⟩
  | .hbm, ⟨11, _⟩ => ⟨S65536, .i32⟩
  | .hbm, ⟨12, _⟩ => ⟨S65536, .f32⟩
  | .hbm, ⟨13, _⟩ => ⟨S65536, .f32⟩
  | .hbm, ⟨14, _⟩ => ⟨S65536, .i32⟩
  | .hbm, ⟨15, _⟩ => ⟨S_, .i32⟩
  | .hbm, ⟨16, _⟩ => ⟨S65536, .i32⟩
  | .hbm, ⟨17, _⟩ => ⟨S65536, .i1⟩
  | .hbm, ⟨18, _⟩ => ⟨S_, .i32⟩
  | .hbm, ⟨19, _⟩ => ⟨S65536, .i32⟩
  | .hbm, ⟨20, _⟩ => ⟨S65536, .i32⟩
  | .hbm, ⟨21, _⟩ => ⟨S65536, .i32⟩
  | .hbm, ⟨22, _⟩ => ⟨S65536x1, .i32⟩
  | .hbm, ⟨23, _⟩ => ⟨S65536x2, .f32⟩
  | .hbm, ⟨24, _⟩ => ⟨S65536x1024, .f32⟩
  | .hbm, ⟨25, _⟩ => ⟨S1x1024, .f32⟩
  | .hbm, ⟨26, _⟩ => ⟨S65536x1024, .f32⟩
  | .hbm, ⟨27, _⟩ => ⟨S65536x1024, .f32⟩
  | .hbm, ⟨28, _⟩ => ⟨S_, .f32⟩
  | .hbm, ⟨29, _⟩ => ⟨S65536x1024, .f32⟩
  | .hbm, ⟨30, _⟩ => ⟨S65536x1024, .f32⟩
  | .hbm, ⟨31, _⟩ => ⟨S65536x512, .f32⟩
  | .hbm, ⟨32, _⟩ => ⟨S1x512, .f32⟩
  | .hbm, ⟨33, _⟩ => ⟨S65536x512, .f32⟩
  | .hbm, ⟨34, _⟩ => ⟨S65536x512, .f32⟩
  | .hbm, ⟨35, _⟩ => ⟨S512x65536, .f32⟩
  | .hbm, ⟨36, _⟩ => ⟨S65536x2, .f32⟩
  | .hbm, ⟨37, _⟩ => ⟨S1x2, .f32⟩
  | .hbm, ⟨38, _⟩ => ⟨S65536x2, .f32⟩
  | .hbm, ⟨39, _⟩ => ⟨S65536x2, .f32⟩
  | .hbm, ⟨40, _⟩ => ⟨S65536x2, .f32⟩
  | .hbm, ⟨41, _⟩ => ⟨S2x65536, .f32⟩
  | .hbm, ⟨42, _⟩ => ⟨S_, .f32⟩
  | .hbm, ⟨43, _⟩ => ⟨S512x65536, .f32⟩
  | .hbm, ⟨44, _⟩ => ⟨S_, .i32⟩
  | .hbm, ⟨45, _⟩ => ⟨S65536, .i32⟩
  | .hbm, ⟨46, _⟩ => ⟨S65536, .i1⟩
  | .hbm, ⟨47, _⟩ => ⟨S_, .i32⟩
  | .hbm, ⟨48, _⟩ => ⟨S65536, .i32⟩
  | .hbm, ⟨49, _⟩ => ⟨S65536, .i32⟩
  | .hbm, ⟨50, _⟩ => ⟨S65536, .i32⟩
  | .hbm, ⟨51, _⟩ => ⟨S65536x1, .i32⟩
  | .hbm, ⟨52, _⟩ => ⟨S512x65536, .f32⟩
  | .hbm, ⟨53, _⟩ => ⟨S_, .f32⟩
  | .hbm, ⟨54, _⟩ => ⟨S2x65536, .f32⟩
  | .hbm, ⟨55, _⟩ => ⟨S_, .i32⟩
  | .hbm, ⟨56, _⟩ => ⟨S65536, .i32⟩
  | .hbm, ⟨57, _⟩ => ⟨S65536, .i1⟩
  | .hbm, ⟨58, _⟩ => ⟨S_, .i32⟩
  | .hbm, ⟨59, _⟩ => ⟨S65536, .i32⟩
  | .hbm, ⟨60, _⟩ => ⟨S65536, .i32⟩
  | .hbm, ⟨61, _⟩ => ⟨S65536, .i32⟩
  | .hbm, ⟨62, _⟩ => ⟨S65536x1, .i32⟩
  | .hbm, ⟨63, _⟩ => ⟨S2x65536, .f32⟩
  | .hbm, ⟨64, _⟩ => ⟨S_, .f32⟩
  | .hbm, ⟨65, _⟩ => ⟨S1x65536, .f32⟩
  | .hbm, ⟨66, _⟩ => ⟨S3x65536, .f32⟩
  | _, _ => ⟨S65536x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1_0 : Ref sig .tc := ⟨.hbm, 12, rfl⟩
abbrev main_call0_v1_1 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_cst : Ref sig .tc := ⟨.hbm, 28, rfl⟩
abbrev main_call1_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst : Ref sig .tc := ⟨.hbm, 42, rfl⟩
abbrev main_v28 : Ref sig .tc := ⟨.hbm, 43, rfl⟩
abbrev main_c_1 : Ref sig .tc := ⟨.hbm, 44, rfl⟩
abbrev main_v29 : Ref sig .tc := ⟨.hbm, 45, rfl⟩
abbrev main_v30 : Ref sig .tc := ⟨.hbm, 46, rfl⟩
abbrev main_c_2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_3 : Ref sig .tc := ⟨.hbm, 53, rfl⟩
abbrev main_v36 : Ref sig .tc := ⟨.hbm, 54, rfl⟩
abbrev main_c_4 : Ref sig .tc := ⟨.hbm, 55, rfl⟩
abbrev main_v37 : Ref sig .tc := ⟨.hbm, 56, rfl⟩
abbrev main_v38 : Ref sig .tc := ⟨.hbm, 57, rfl⟩
abbrev main_c_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== Proof.Spec.lean ====
/-
  The mathematics that both programs compute, over the extended reals: a perceptron with one hidden layer of 1024 units,
  applied to each of the 65536 points on its own. Point `n` gives column `n` of both results.
-/
module

public import Idealize.ShloMosaic.Lib.Pointwise
public import Idealize.ShloMosaic.PureOps.Ideal

@[expose] public section

noncomputable section

namespace Cert.Proof

open Idealize.ShloMosaic

/-- Hidden unit `k` at point `n`: the two coordinates weighted and added, the bias added, negative values cut to zero. -/
def hidden (X : Vec Ideal ⟨2, ![65536, 2]⟩ .f32) (W1 : Vec Ideal ⟨2, ![2, 1024]⟩ .f32) (b1 : Vec Ideal ⟨1, ![1024]⟩ .f32)
    (n : Fin 65536) (k : Fin 1024) : EReal :=
  max (X (ix2 n 0) * W1 (ix2 0 k) + X (ix2 n 1) * W1 (ix2 1 k) + b1 (ix1 k)) 0

/-- Feature `d` of a point whose hidden units are `h`: one output of the first linear head, its bias added. -/
def feature (W2 : Vec Ideal ⟨2, ![1024, 512]⟩ .f32) (b2 : Vec Ideal ⟨1, ![512]⟩ .f32) (h : Fin 1024 → EReal)
    (d : Fin 512) : EReal :=
  (∑ k : Fin 1024, h k * W2 (ix2 k d)) + b2 (ix1 d)

/-- Entry `r` of the state of a point whose hidden units are `h`: the hyperbolic tangent of one output of the second head. -/
def state (Wl : Vec Ideal ⟨2, ![1024, 2]⟩ .f32) (bl : Vec Ideal ⟨1, ![2]⟩ .f32) (h : Fin 1024 → EReal)
    (r : Fin 2) : EReal :=
  Ideal.tanh ((∑ k : Fin 1024, h k * Wl (ix2 k r)) + bl (ix1 r))

/-- The features of all the points: feature `d` of point `n` in row `d`, column `n`. -/
def features (X : Vec Ideal ⟨2, ![65536, 2]⟩ .f32) (W1 : Vec Ideal ⟨2, ![2, 1024]⟩ .f32) (b1 : Vec Ideal ⟨1, ![1024]⟩ .f32)
    (W2 : Vec Ideal ⟨2, ![1024, 512]⟩ .f32) (b2 : Vec Ideal ⟨1, ![512]⟩ .f32) : Vec Ideal ⟨2, ![512, 65536]⟩ .f32 :=
  fun i => feature W2 b2 (hidden X W1 b1 (i 1)) (i 0)

/-- The states of all the points: entry `r` of point `n`'s state in row `r`, column `n`, and zero in row 2. -/
def states (X : Vec Ideal ⟨2, ![65536, 2]⟩ .f32) (W1 : Vec Ideal ⟨2, ![2, 1024]⟩ .f32) (b1 : Vec Ideal ⟨1, ![1024]⟩ .f32)
    (Wl : Vec Ideal ⟨2, ![1024, 2]⟩ .f32) (bl : Vec Ideal ⟨1, ![2]⟩ .f32) : Vec Ideal ⟨2, ![3, 65536]⟩ .f32 :=
  fun i => if h : (i 0).val < 2 then state Wl bl (hidden X W1 b1 (i 1)) ⟨(i 0).val, h⟩ else 0

/-- The features with each weight written to the left of its hidden unit. -/
theorem feature_weights_left (W2 : Vec Ideal ⟨2, ![1024, 512]⟩ .f32) (b2 : Vec Ideal ⟨1, ![512]⟩ .f32)
    (h : Fin 1024 → EReal) (d : Fin 512) :
    feature W2 b2 h d = (∑ k : Fin 1024, (W2 (ix2 k d) : EReal) * h k) + b2 (ix1 d) :=
  congrArg (fun s : EReal => s + b2 (ix1 d)) (Finset.sum_congr rfl fun _ _ => mul_comm (G := EReal) _ _)

/-- The states with each weight written to the left of its hidden unit. -/
theorem state_weights_left (Wl : Vec Ideal ⟨2, ![1024, 2]⟩ .f32) (bl : Vec Ideal ⟨1, ![2]⟩ .f32)
    (h : Fin 1024 → EReal) (r : Fin 2) :
    state Wl bl h r = Ideal.tanh ((∑ k : Fin 1024, (Wl (ix2 k r) : EReal) * h k) + bl (ix1 r)) :=
  congrArg (fun s : EReal => Ideal.tanh (s + bl (ix1 r))) (Finset.sum_congr rfl fun _ _ => mul_comm (G := EReal) _ _)

end Cert.Proof

end
-- ==== Proof.Block.lean ====
/-
  What the kernel's body computes from the blocks in front of it, at one index. The block of points has its two coordinates in two
  rows and one point per column, so each payload's column `j` is the network applied to point `j` of the block.
-/
module

public import proofs.«01_k».proof.Proof.Gen.KernelIdeal.Skeleton
public import Idealize.ShloMosaic.Lib.Pointwise
public import Idealize.ShloMosaic.PureOps.Ideal

@[expose] public section

set_option maxRecDepth 16384

noncomputable section

namespace Cert.Proof.Block

open Idealize.ShloMosaic Cert.KernelIdeal Cert.KernelIdeal.Gen

/-- The body's hidden unit `k` at column `j` of the block: the two rows `x`, `y` of coordinates against the two weight
    columns `u`, `v`, the bias column `b`, cut at zero. -/
theorem hidden_at (x y : Vec Ideal S1x8192 .f32) (u v b : Vec Ideal S1024x1 .f32) (k : Fin 1024) (j : Fin 8192) :
    k0_pay2 x y u v b (ix2 k j)
      = max (u (ix2 k 0) * x (ix2 0 j) + v (ix2 k 0) * y (ix2 0 j) + b (ix2 k 0)) 0 := by
  pointwise [k0_pay2]

/-- The stored block of features: row `d` of the weights against the hidden units of column `j`, and the bias. -/
theorem feature_at (x y : Vec Ideal S1x8192 .f32) (u v b : Vec Ideal S1024x1 .f32) (w : Vec Ideal S512x1024 .bf16)
    (a : Vec Ideal S512x1 .f32) (d : Fin 512) (j : Fin 8192) :
    k0_pay3 x y u v b w a (ix2 d j)
      = (∑ k : Fin 1024, w (ix2 d k) * k0_pay2 x y u v b (ix2 k j)) + a (ix2 d 0) := by
  pointwise [k0_pay3]

/-- The second head before its bias: row `r` of the weights against the hidden units of column `j`. -/
theorem head_at (x y : Vec Ideal S1x8192 .f32) (u v b : Vec Ideal S1024x1 .f32) (w : Vec Ideal S2x1024 .bf16)
    (r : Fin 2) (j : Fin 8192) :
    k0_pay4 x y u v b w (ix2 r j) = ∑ k : Fin 1024, w (ix2 r k) * k0_pay2 x y u v b (ix2 k j) := by
  pointwise [k0_pay4]

/-- The stored block of states: in rows 0 and 1 the hyperbolic tangent of the second head with its bias, and zero in row 2. -/
theorem state_at (s : Vec Ideal S2x8192 .f32) (a : Vec Ideal S2x1 .f32) (r : Fin 3) (j : Fin 8192) :
    k0_pay1 s a (ix2 r j)
      = if h : r.val < 2 then Ideal.tanh (s (ix2 ⟨r.val, h⟩ j) + a (ix2 ⟨r.val, h⟩ 0)) else 0 := by
  pointwise [k0_pay1]

end Cert.Proof.Block

end
-- ==== Proof.KernelArray.lean ====
/-
  What the kernel's two result arrays hold after a run. Grid point `t` of 8 works on columns `8192 t … 8192 t + 8191`: its
  block of points is those columns of the transposed point array, and the other operands it sees whole. The eight column
  blocks that it writes back tile both results.
-/
module

public import proofs.«01_k».proof.Proof.Gen.KernelIdeal.Value
public import proofs.«01_k».proof.Proof.Spec
public import proofs.«01_k».proof.Proof.Block
public import Idealize.ShloMosaic.Lib.Pipeline.ValueKit

@[expose] public section

set_option maxRecDepth 16384

noncomputable section

namespace Cert.Proof.KernelArray

open Idealize.ShloMosaic Idealize.ShloMosaic.TcCoe Idealize.SL.Sem Cert.KernelIdeal Cert.KernelIdeal.Gen

variable (m : (ℓ : Loc nD τ sig) → Buf (Elt Ideal) ℓ)

/-- Where the blocks of grid point `t` lie: the points and both results move one block along the columns per grid point. -/
theorem moving : ∀ t : Fin grid0.N, win0_0.index t = ![0, t.val] ∧ win0_7.index t = ![0, t.val] ∧ win0_8.index t = ![0, t.val] := by
  decide +kernel

/-- The weights and biases stay where they are: their one block is the whole array. -/
theorem resting : ∀ t : Fin grid0.N, win0_1.index t = ![0, 0] ∧ win0_2.index t = ![0, 0] ∧ win0_3.index t = ![0, 0]
    ∧ win0_4.index t = ![0, 0] ∧ win0_5.index t = ![0, 0] ∧ win0_6.index t = ![0, 0] := by
  decide +kernel

/-- The point that column `j` of grid point `t`'s block belongs to. -/
def column (t : Fin cfg0.N) (j : Fin 8192) : Fin 65536 :=
  ⟨t.val * 8192 + j.val, by have h : t.val < 8 := t.isLt; omega⟩

/-- The block of points: row `r` of column `j` is coordinate `r` of the column's point. -/
theorem points_at (c : Dev nD) (t : Fin cfg0.N) (r : Fin 2) (j : Fin 8192) :
    iblk m c 0 t (ix2 r j) = m ((c : Thread nD τ).loc main_arg0) (ix2 (column t j) r) := by
  blk_ext! [iblk, V, moving t, column]

/-- The first weights come in transposed: unit `k`, coordinate `r`. -/
theorem weight1_at (c : Dev nD) (t : Fin cfg0.N) (k : Fin 1024) (r : Fin 2) :
    iblk m c 1 t (ix2 k r) = m ((c : Thread nD τ).loc main_arg1) (ix2 r k) := by
  blk_ext! [iblk, V, resting t]

/-- The first bias comes in as a column. -/
theorem bias1_at (c : Dev nD) (t : Fin cfg0.N) (k : Fin 1024) :
    iblk m c 2 t (ix2 k 0) = m ((c : Thread nD τ).loc main_arg2) (ix1 k) := by
  blk_ext! [iblk, V, resting t]

/-- The first head's weights come in transposed, and rounded to a narrower format, which over the extended reals changes nothing. -/
theorem weight2_at (c : Dev nD) (t : Fin cfg0.N) (d : Fin 512) (k : Fin 1024) :
    iblk m c 3 t (ix2 d k) = m ((c : Thread nD τ).loc main_arg3) (ix2 k d) := by
  blk_ext! [iblk, V, resting t]

/-- The first head's bias comes in as a column. -/
theorem bias2_at (c : Dev nD) (t : Fin cfg0.N) (d : Fin 512) :
    iblk m c 4 t (ix2 d 0) = m ((c : Thread nD τ).loc main_arg4) (ix1 d) := by
  blk_ext! [iblk, V, resting t]

/-- The second head's weights come in transposed, and rounded likewise. -/
theorem weight3_at (c : Dev nD) (t : Fin cfg0.N) (r : Fin 2) (k : Fin 1024) :
    iblk m c 5 t (ix2 r k) = m ((c : Thread nD τ).loc main_arg5) (ix2 k r) := by
  blk_ext! [iblk, V, resting t]

/-- The second head's bias comes in as a column. -/
theorem bias3_at (c : Dev nD) (t : Fin cfg0.N) (r : Fin 2) :
    iblk m c 6 t (ix2 r 0) = m ((c : Thread nD τ).loc main_arg6) (ix1 r) := by
  blk_ext! [iblk, V, resting t]

/-- A weight may stand on either side of its coordinate. -/
theorem weights_left (u x v y b : EReal) : max (u * x + v * y + b) 0 = max (x * u + y * v + b) 0 := by
  rw [mul_comm u, mul_comm v]

/-- The body's hidden units at grid point `t`, in column `j`, are the hidden units of the column's point. -/
theorem hidden_point (c : Dev nD) (t : Fin cfg0.N) (k : Fin 1024) (j : Fin 8192) :
    k0_pay2 (View.ld (iblk m c 0 t) r0_0) (View.ld (iblk m c 0 t) r0_1) (View.ld (iblk m c 1 t) r0_2)
        (View.ld (iblk m c 1 t) r0_3) (iblk m c 2 t) (ix2 k j)
      = hidden (m ((c : Thread nD τ).loc main_arg0)) (m ((c : Thread nD τ).loc main_arg1))
          (m ((c : Thread nD τ).loc main_arg2)) (column t j) k := by
  have hx : View.ld (iblk m c 0 t) r0_0 (ix2 0 j) = iblk m c 0 t (ix2 0 j) := by pointwise [r0_0]
  have hy : View.ld (iblk m c 0 t) r0_1 (ix2 0 j) = iblk m c 0 t (ix2 1 j) := by pointwise [r0_1]
  have hu : View.ld (iblk m c 1 t) r0_2 (ix2 k 0) = iblk m c 1 t (ix2 k 0) := by pointwise [r0_2]
  have hv : View.ld (iblk m c 1 t) r0_3 (ix2 k 0) = iblk m c 1 t (ix2 k 1) := by pointwise [r0_3]
  rw [Block.hidden_at, hx, hy, hu, hv, points_at, points_at, weight1_at, weight1_at, bias1_at, hidden]
  exact weights_left _ _ _ _ _

/-- The block of features that grid point `t` stores: in column `j` the features of the column's point. -/
theorem feature_point (c : Dev nD) (t : Fin cfg0.N) (d : Fin 512) (j : Fin 8192) :
    k0_pay3 (View.ld (iblk m c 0 t) r0_0) (View.ld (iblk m c 0 t) r0_1) (View.ld (iblk m c 1 t) r0_2)
        (View.ld (iblk m c 1 t) r0_3) (iblk m c 2 t) (iblk m c 3 t) (iblk m c 4 t) (ix2 d j)
      = feature (m ((c : Thread nD τ).loc main_arg3)) (m ((c : Thread nD τ).loc main_arg4))
          (hidden (m ((c : Thread nD τ).loc main_arg0)) (m ((c : Thread nD τ).loc main_arg1))
            (m ((c : Thread nD τ).loc main_arg2)) (column t j)) d := by
  rw [Block.feature_at, feature_weights_left, bias2_at]
  refine congrArg (fun s : EReal => s + _) (Finset.sum_congr rfl fun k _ => ?_)
  rw [hidden_point, weight2_at]

/-- The block of states that grid point `t` stores: in column `j` the state of the column's point, over a zero. -/
theorem state_point (c : Dev nD) (t : Fin cfg0.N) (r : Fin 3) (j : Fin 8192) :
    k0_pay1 (k0_pay4 (View.ld (iblk m c 0 t) r0_0) (View.ld (iblk m c 0 t) r0_1) (View.ld (iblk m c 1 t) r0_2)
        (View.ld (iblk m c 1 t) r0_3) (iblk m c 2 t) (iblk m c 5 t)) (iblk m c 6 t) (ix2 r j)
      = if h : r.val < 2 then
          state (m ((c : Thread nD τ).loc main_arg5)) (m ((c : Thread nD τ).loc main_arg6))
            (hidden (m ((c : Thread nD τ).loc main_arg0)) (m ((c : Thread nD τ).loc main_arg1))
              (m ((c : Thread nD τ).loc main_arg2)) (column t j)) ⟨r.val, h⟩
        else 0 := by
  rw [Block.state_at]
  by_cases h : r.val < 2
  · rw [dif_pos h, dif_pos h, state_weights_left, Block.head_at, bias3_at]
    refine congrArg (fun s : EReal => Ideal.tanh (s + _)) (Finset.sum_congr rfl fun k _ => ?_)
    rw [hidden_point, weight3_at]
  · rw [dif_neg h, dif_neg h]

/-- After the run the first result array holds the features of all the points. -/
theorem features_final (c : Dev nD) : (dats m 0 c).arrAt 7 cfg0.N
      = features (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 7 _ (by decide +kernel) fun t hf y => ?_
  blk_simp
  rw [after0_7]
  frame_out
  idx_vars y
  have hp : ((View.whole main_v9_0).slice (win0_7.rect t)).emb (ix2 y0 y1) = ix2 y0 (column t y1) := by
    blk_ext [moving t, column]
  rw [hp]
  exact feature_point m c t y0 y1

/-- After the run the second result array holds the states of all the points. -/
theorem states_final (c : Dev nD) : (dats m 0 c).arrAt 8 cfg0.N
      = states (m ((c : Thread nD τ).loc main_arg0)) (m ((c : Thread nD τ).loc main_arg1)) (m ((c : Thread nD τ).loc main_arg2))
          (m ((c : Thread nD τ).loc main_arg5)) (m ((c : Thread nD τ).loc main_arg6)) := by
  refine (dats m 0 c).arrAt_eq_of_covers 8 _ (by decide +kernel) fun t hf y => ?_
  blk_simp
  rw [after0_8]
  frame_out
  idx_vars y
  have hp : ((View.whole main_v9_1).slice (win0_8.rect t)).emb (ix2 y0 y1) = ix2 y0 (column t y1) := by
    blk_ext [moving t, column]
  rw [hp]
  exact state_point m c t y0 y1
variable (ρ : Dev nD → PrngReg)

/-- A run of the kernel ends with the features and the states of the points it was given, and its arguments unchanged. -/
theorem run :
    θ_run defs (onTc (τ := τ) (main (F := Ideal))) ⟨m, fun _ => 0, ρ⟩ fun r => ∀ c : Dev nD,
      r.2.mem ((c.tc : Thread nD τ).loc main_v9_0)
          = features (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_v9_1)
          = states (m ((c.tc : Thread nD τ).loc main_arg0)) (m ((c.tc : Thread nD τ).loc main_arg1))
              (m ((c.tc : Thread nD τ).loc main_arg2)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c).1.trans (features_final m c), (h c).2.1.trans (states_final m c), (h c).2.2⟩)
    (Cert.KernelIdeal.Value.run_blocks m ρ)

end Cert.Proof.KernelArray

end
-- ==== Proof.Columns.lean ====
/-
  Writing the columns of a matrix in a permuted order. A host scatter takes column `p` of its updates to the column that the
  index word at `p` names. When the words are the values of a map onto all the columns, every column of the result is written,
  and what was there before does not matter.
-/
module

public import Idealize.ShloMosaic.Lib.Routing.OpsPair
public import Idealize.ShloMosaic.Lib.Routing.OpsSet

@[expose] public section

noncomputable section

namespace Cert.Proof.Columns

open Idealize.ShloMosaic Idealize.ShloMosaic.ValueIdx Idealize.ShloMosaic.Routing

/-- The dimension numbers of `x.at[:, idx].set(upd)`: an `R × N` matrix whose columns are written whole, one per word. -/
def columnDims (R N : Nat) (wf : ScatterDims.WF (shape2 R N) (shape2 N 1) (shape2 R N) [0] [1] [1] 1) :
    ScatterDims (shape2 R N) (shape2 N 1) (shape2 R N) where
  updateWindowDims := [0]
  insertedWindowDims := [1]
  scatterDimsToOperandDims := [1]
  indexVectorDim := 1
  wf := wf

variable {α : Type} {R N : Nat} {wf : ScatterDims.WF (shape2 R N) (shape2 N 1) (shape2 R N) [0] [1] [1] 1}

/-- The index word of update column `p` is the one at `p`. -/
theorem word_of_column (s : Fin R) (p : Fin N) :
    (columnDims R N wf).siIdx (ix2 s p) ⟨0, Nat.one_pos⟩ = ix2 p (0 : Fin 1) := by
  funext b
  match b with
  | ⟨0, _⟩ => rfl
  | ⟨1, _⟩ => rfl

/-- Entry `(s, p)` of the updates lands at `(r, n)` exactly when it comes from row `r` and its word, read signed, is `n`. -/
theorem lands_iff (idx : IVec (shape2 N 1) 32) (s r : Fin R) (p n : Fin N) :
    (columnDims R N wf).resultIdx? (ix2 s p) idx = some (ix2 r n)
      ↔ s = r ∧ (idx (ix2 p (0 : Fin 1))).toInt = (n.val : Int) := by
  have h0 : (columnDims R N wf).start (ix2 s p) idx 0 = 0 := rfl
  have h1 : (columnDims R N wf).start (ix2 s p) idx 1 = (idx (ix2 p (0 : Fin 1))).toInt :=
    congrArg (fun i => (idx i).toInt) (word_of_column s p)
  have w0 : (columnDims R N wf).window (ix2 s p) 0 = s.val := rfl
  have w1 : (columnDims R N wf).window (ix2 s p) 1 = 0 := rfl
  rw [resultIdx?_ix2, h0, h1, w0, w1, Fin.ext_iff]
  omega

/-- COLUMNS IN A PERMUTED ORDER. Let the index words be the values of `σ`, a map onto the columns, and let update column `p`
    hold what `y` gives for column `σ p`. Then the result holds `y` throughout. -/
theorem scatter_onto (hN : N < 2 ^ 31) (σ : Fin N → Fin N) (onto : Function.Surjective σ) (idx : IVec (shape2 N 1) 32)
    (hidx : ∀ p, idx (ix2 p (0 : Fin 1)) = BitVec.ofNat 32 (σ p).val) (x upd : (shape2 R N).Idx → α) (y : Fin R → Fin N → α)
    (hupd : ∀ s p, upd (ix2 s p) = y s (σ p)) (r : Fin R) (n : Fin N) :
    Host.scatter (columnDims R N wf) (fun _ b => b) x idx upd (ix2 r n) = y r n := by
  have word : ∀ p, (idx (ix2 p (0 : Fin 1))).toInt = ((σ p).val : Int) := fun p => by
    rw [hidx, StableHlo.Predicate.toInt_ofNat_small _ (lt_trans (σ p).isLt hN)]
  obtain ⟨p, hp⟩ := onto n
  refine scatter_set_hit _ _ _ _ _ _ (fun k hk => ?_) (ix2 r p) ((lands_iff idx r r p n).2 ⟨rfl, by rw [word, hp]⟩)
  obtain ⟨s, q, rfl⟩ : ∃ (s : Fin R) (q : Fin N), k = ix2 s q := ⟨k 0, k 1, eq_ix2 k⟩
  obtain ⟨hs, hn⟩ := (lands_iff idx s r q n).1 hk
  rw [word] at hn
  rw [hupd, hs, show σ q = n from Fin.ext (by exact_mod_cast hn)]

end Cert.Proof.Columns

end
-- ==== Proof.RefStages.lean ====
/-
  The reference, stage by stage, at one index. It visits the points in some order `σ`: it gathers point `σ p` into row `p`,
  puts the rows through the network, and scatters row `p` of the outcome into column `σ p`. Column `n` of each result is
  therefore the network at point `n`, whatever map onto the points `σ` is.
-/
module

public import proofs.«01_k».proof.Proof.Gen.ReferenceIdeal
public import proofs.«01_k».proof.Proof.Spec
public import proofs.«01_k».proof.Proof.Columns
public import Idealize.ShloMosaic.Lib.Routing.Ops

@[expose] public section

set_option maxRecDepth 16384

noncomputable section

namespace Cert.Proof.RefStages

open Idealize.ShloMosaic Cert.ReferenceIdeal Cert.ReferenceIdeal.Gen

/-! ## The stages, as the reference writes them -/

/-- The column of index words for the order `O`: a negative word would count from the end. -/
def words (O : IVec S65536 32) : IVec S65536x1 32 :=
  broadcastInDim S65536x1 ![0] bcast_S65536_S65536x1_0
    (select (cmpi .slt O (broadcastInDim S65536 ![] bcast_S_S65536 (constantI S_ 32 0#32)))
      (addi O (broadcastInDim S65536 ![] bcast_S_S65536 (constantI S_ 32 65536#32))) O)

/-- The hidden layer of the visited points. -/
def hiddenRows (X : FVec Ideal S65536x2 .f32) (W1 : FVec Ideal S2x1024 .f32) (b1 : FVec Ideal S1024 .f32)
    (O : IVec S65536 32) : FVec Ideal S65536x1024 .f32 :=
  maximumf (addf (Host.dotGeneral dot_S65536x2_S2x1024_S65536x1024_1_0_0_1_n_n none
      (Host.gather gather_S65536x2_S65536x1_S65536x2_1_0_n_n_0_1_12 X (words O)) W1)
      (broadcastInDim S65536x1024 ![0, 1] bcast_S1x1024_S65536x1024_0_1 (broadcastInDim S1x1024 ![1] bcast_S1024_S1x1024_1 b1)))
    (broadcastInDim S65536x1024 ![] bcast_S_S65536x1024 (constant S_ .f32 0x00000000#32))

/-- The features of the visited points, a column for each. -/
def featureColumns (W2 : FVec Ideal S1024x512 .f32) (b2 : FVec Ideal S512 .f32) (h : FVec Ideal S65536x1024 .f32) :
    FVec Ideal S512x65536 .f32 :=
  transpose S512x65536 [1, 0] (addf (Host.dotGeneral dot_S65536x1024_S1024x512_S65536x512_1_0_0_1_n_n none h W2)
    (broadcastInDim S65536x512 ![0, 1] bcast_S1x512_S65536x512_0_1 (broadcastInDim S1x512 ![1] bcast_S512_S1x512_1 b2)))
    transposes_S65536x512_S512x65536_1_0

/-- The states of the visited points, a column for each. -/
def stateColumns (Wl : FVec Ideal S1024x2 .f32) (bl : FVec Ideal S2 .f32) (h : FVec Ideal S65536x1024 .f32) :
    FVec Ideal S2x65536 .f32 :=
  transpose S2x65536 [1, 0] (Host.tanh (addf (Host.dotGeneral dot_S65536x1024_S1024x2_S65536x2_1_0_0_1_n_n none h Wl)
    (broadcastInDim S65536x2 ![0, 1] bcast_S1x2_S65536x2_0_1 (broadcastInDim S1x2 ![1] bcast_S2_S1x2_1 bl))))
    transposes_S65536x2_S2x65536_1_0

/-- The reference's first result: the feature columns put back at their points. -/
def featuresBack (O : IVec S65536 32) (cols : FVec Ideal S512x65536 .f32) : FVec Ideal S512x65536 .f32 :=
  Host.scatter scatter_S512x65536_S65536x1_S512x65536_0_1_1_1 (fun _ b => b)
    (broadcastInDim S512x65536 ![] bcast_S_S512x65536 (constant S_ .f32 0x00000000#32)) (words O) cols

/-- The reference's second result: the state columns put back at their points, and a row of zeros below. -/
def statesBack (O : IVec S65536 32) (cols : FVec Ideal S2x65536 .f32) : FVec Ideal S3x65536 .f32 :=
  concatenate S3x65536 0
    [⟨S2x65536, Host.scatter scatter_S2x65536_S65536x1_S2x65536_0_1_1_1 (fun _ b => b)
        (broadcastInDim S2x65536 ![] bcast_S_S2x65536 (constant S_ .f32 0x00000000#32)) (words O) cols⟩,
     ⟨S1x65536, broadcastInDim S1x65536 ![] bcast_S_S1x65536 (constant S_ .f32 0x00000000#32)⟩]
    concatenates_S2x65536_S1x65536_S3x65536_d0

/-! ## The stages at an index -/

variable (X : FVec Ideal S65536x2 .f32) (W1 : FVec Ideal S2x1024 .f32) (b1 : FVec Ideal S1024 .f32)
  (W2 : FVec Ideal S1024x512 .f32) (b2 : FVec Ideal S512 .f32) (Wl : FVec Ideal S1024x2 .f32) (bl : FVec Ideal S2 .f32)
  (O : IVec S65536 32) (σ : Fin 65536 → Fin 65536) (onto : Function.Surjective σ)
  (order : ∀ p : Fin 65536, O (ix1 p) = BitVec.ofNat 32 (σ p).val)

include order in
/-- No word of the order is negative, so the column of words holds the order itself. -/
theorem words_at (p : Fin 65536) : words O (ix2 p 0) = BitVec.ofNat 32 (σ p).val := by
  have h : words O (ix2 p 0) = Scalar.select (IntOp.cmpi .slt (O (ix1 p)) 0#32) (IntOp.addi (O (ix1 p)) 65536#32) (O (ix1 p)) := by
    pointwise [words]
  rw [h, Routing.wrap_of_lt, order]
  have := (σ p).isLt
  rw [order, BitVec.toNat_ofNat]
  omega

include order in
/-- Row `p` of the gathered points is point `σ p`. -/
theorem gathered_at (p : Fin 65536) (a : Fin 2) :
    Host.gather gather_S65536x2_S65536x1_S65536x2_1_0_n_n_0_1_12 X (words O) (ix2 p a) = X (ix2 (σ p) a) := by
  simp only [ix2_eq_valueIdx]
  exact Routing.gather_row _ rfl rfl rfl rfl rfl X (words O) p a (σ p)
    (by rw [← ix2_eq_valueIdx]; exact words_at O σ order p) (by norm_num)

include order in
/-- Row `p` of the hidden layer holds the hidden units of point `σ p`. -/
theorem hiddenRows_at (p : Fin 65536) (k : Fin 1024) : hiddenRows X W1 b1 O (ix2 p k) = hidden X W1 b1 (σ p) k := by
  have h : hiddenRows X W1 b1 O (ix2 p k)
      = max ((∑ a : Fin 2, Host.gather gather_S65536x2_S65536x1_S65536x2_1_0_n_n_0_1_12 X (words O) (ix2 p a)
          * W1 (ix2 a k)) + b1 (ix1 k)) 0 := by
    pointwise [hiddenRows]
  rw [h, Fin.sum_univ_two, gathered_at X O σ order, gathered_at X O σ order]
  rfl

/-- Column `p` of the features: a row of the hidden layer against the weights, and the bias. -/
theorem featureColumns_at (h : FVec Ideal S65536x1024 .f32) (d : Fin 512) (p : Fin 65536) :
    featureColumns W2 b2 h (ix2 d p) = feature W2 b2 (fun k => h (ix2 p k)) d := by
  unfold feature
  pointwise [featureColumns]

/-- Column `p` of the states: a row of the hidden layer against the weights, the bias, and the hyperbolic tangent. -/
theorem stateColumns_at (h : FVec Ideal S65536x1024 .f32) (r : Fin 2) (p : Fin 65536) :
    stateColumns Wl bl h (ix2 r p) = state Wl bl (fun k => h (ix2 p k)) r := by
  unfold state
  pointwise [stateColumns]

include order onto

/-- The reference's first result holds feature `d` of point `n` in row `d`, column `n`. -/
theorem featuresBack_at (d : Fin 512) (n : Fin 65536) :
    featuresBack O (featureColumns W2 b2 (hiddenRows X W1 b1 O)) (ix2 d n) = feature W2 b2 (hidden X W1 b1 n) d := by
  rw [ix2_eq_valueIdx]
  refine Columns.scatter_onto (by norm_num) σ onto (words O) (fun p => ?_) _ _
    (fun d n => feature W2 b2 (hidden X W1 b1 n) d) (fun s p => ?_) d n
  · rw [← ix2_eq_valueIdx]; exact words_at O σ order p
  · rw [← ix2_eq_valueIdx, featureColumns_at]
    exact congrArg (fun h => feature W2 b2 h s) (funext fun k => hiddenRows_at X W1 b1 O σ order p k)

/-- The reference's second result holds entry `r` of point `n`'s state in row `r`, column `n`, and zero in row 2. -/
theorem statesBack_at (r : Fin 3) (n : Fin 65536) :
    statesBack O (stateColumns Wl bl (hiddenRows X W1 b1 O)) (ix2 r n)
      = if h : r.val < 2 then state Wl bl (hidden X W1 b1 n) ⟨r.val, h⟩ else 0 := by
  have top : ∀ s : Fin 2, Host.scatter scatter_S2x65536_S65536x1_S2x65536_0_1_1_1 (fun _ b => b)
      (broadcastInDim S2x65536 ![] bcast_S_S2x65536 (constant (F := Ideal) S_ .f32 0x00000000#32)) (words O)
      (stateColumns Wl bl (hiddenRows X W1 b1 O)) (ix2 s n) = state Wl bl (hidden X W1 b1 n) s := fun s => by
    rw [ix2_eq_valueIdx]
    refine Columns.scatter_onto (by norm_num) σ onto (words O) (fun p => ?_) _ _
      (fun s n => state Wl bl (hidden X W1 b1 n) s) (fun s p => ?_) s n
    · rw [← ix2_eq_valueIdx]; exact words_at O σ order p
    · rw [← ix2_eq_valueIdx, stateColumns_at]
      exact congrArg (fun h => state Wl bl h s) (funext fun k => hiddenRows_at X W1 b1 O σ order p k)
  have rows : statesBack O (stateColumns Wl bl (hiddenRows X W1 b1 O)) (ix2 r n)
      = if h : r.val < 2 then
          Host.scatter scatter_S2x65536_S65536x1_S2x65536_0_1_1_1 (fun _ b => b)
            (broadcastInDim S2x65536 ![] bcast_S_S2x65536 (constant (F := Ideal) S_ .f32 0x00000000#32)) (words O)
            (stateColumns Wl bl (hiddenRows X W1 b1 O)) (ix2 ⟨r.val, h⟩ n)
        else 0 := by
    pointwise [statesBack]
  rw [rows]
  by_cases h : r.val < 2
  · rw [dif_pos h, dif_pos h, top]
  · rw [dif_neg h, dif_neg h]

end Cert.Proof.RefStages

end
-- ==== Proof.Order.lean ====
/-
  The order in which the reference visits the points. It sorts the points by their coordinates, with their numbers
  0 … 65535 carried along, and the carried numbers after the sort are the order. Which order that is does not matter here:
  a sort only moves entries, so the order is some map of the positions onto the positions.
-/
module

public import Idealize.ShloMosaic.Lib.SortFacts
public import Idealize.ShloMosaic.Lib.Pointwise

@[expose] public section

set_option maxRecDepth 16384

noncomputable section

namespace Cert.Proof.Order

open Idealize.ShloMosaic

/-- A sort of three vectors along their one axis, the third holding the positions' own numbers: the third result holds the
    numbers `σ p` for a map `σ` onto the positions. -/
theorem sort_positions {α β : Type} (N : Nat) (cmp : α × β × BitVec 32 → α × β × BitVec 32 → BitVec 1)
    (x : (⟨1, ![N]⟩ : Shape).Idx → α) (y : (⟨1, ![N]⟩ : Shape).Idx → β) :
    ∃ σ : Fin N → Fin N, Function.Surjective σ ∧
      ∀ p, (Host.sort3 ⟨1, ![N]⟩ 0 cmp x y (iotaInDim ⟨1, ![N]⟩ 32 0)).2.2 (ix1 p) = BitVec.ofNat 32 (σ p).val := by
  let entry : Fin N → α × β × BitVec 32 := fun k =>
    (x (Shape.Idx.ofFin k), y (Shape.Idx.ofFin k), iotaInDim ⟨1, ![N]⟩ 32 0 (Shape.Idx.ofFin k))
  refine ⟨sortedFrom fun k k' => cmp (entry k) (entry k') == 1#1, sortedFrom_surjective _, fun p => ?_⟩
  -- the sort compares position `k` of the vectors, read along the axis from position `p`
  let here : Fin N → (⟨1, ![N]⟩ : Shape).Idx := fun k => Shape.Idx.along (s := ⟨1, ![N]⟩) (ix1 p) (0 : Fin 1) k
  have along : here = fun k => Shape.Idx.ofFin k := funext fun k => Shape.Idx.along_rank1 _ k
  have read : (Host.sort3 ⟨1, ![N]⟩ 0 cmp x y (iotaInDim ⟨1, ![N]⟩ 32 0)).2.2 (ix1 p)
      = iotaInDim ⟨1, ![N]⟩ 32 0 (here (sortedFrom (fun k k' =>
          cmp (x (here k), y (here k), iotaInDim ⟨1, ![N]⟩ 32 0 (here k))
            (x (here k'), y (here k'), iotaInDim ⟨1, ![N]⟩ 32 0 (here k')) == 1#1) p)) := by
    unfold Host.sort3
    rw [dif_pos (show 0 < (⟨1, ![N]⟩ : Shape).rank from Nat.one_pos)]
    rfl
  rw [read, along]
  rfl

end Cert.Proof.Order

end
-- ==== Proof.Reference.lean ====
/-
  What the reference's two results hold after a run: the same arrays as the kernel's, as functions of the seven arguments.
-/
module

public import proofs.«01_k».proof.Proof.Gen.ReferenceIdeal.Run
public import proofs.«01_k».proof.Proof.RefStages
public import proofs.«01_k».proof.Proof.Order

@[expose] public section

set_option maxRecDepth 16384

noncomputable section

namespace Cert.Proof.Reference

open Idealize.ShloMosaic Idealize.ShloMosaic.TcCoe Idealize.SL.Sem Cert.ReferenceIdeal Cert.ReferenceIdeal.Gen

variable (m : (ℓ : Loc nD τ sig) → Buf (Elt Ideal) ℓ) (ρ : Dev nD → PrngReg)

/-- The order in which the reference visits the points of `X`: their numbers after a sort by the two coordinates. -/
def visits (X : FVec Ideal S65536x2 .f32) : IVec S65536 32 :=
  (Host.sort3 S65536 0 comparator_f32_f32_i32_d0
    (shapeCast S65536 (extractStridedSlice S65536x1 ![0, 0] X slices_S65536x2_S65536x1_0_0) shapeCasts_S65536x1_S65536)
    (shapeCast S65536 (extractStridedSlice S65536x1 ![0, 1] X slices_S65536x2_S65536x1_0_1) shapeCasts_S65536x1_S65536)
    (iotaInDim S65536 32 0)).2.2

/-- The first result as the reference computes it from the arguments is the features of all the points. -/
theorem features_eq (X : FVec Ideal S65536x2 .f32) (W1 : FVec Ideal S2x1024 .f32) (b1 : FVec Ideal S1024 .f32)
    (W2 : FVec Ideal S1024x512 .f32) (b2 : FVec Ideal S512 .f32) :
    RefStages.featuresBack (visits X) (RefStages.featureColumns W2 b2 (RefStages.hiddenRows X W1 b1 (visits X)))
      = features X W1 b1 W2 b2 := by
  obtain ⟨σ, onto, order⟩ := Order.sort_positions 65536 comparator_f32_f32_i32_d0
    (shapeCast S65536 (extractStridedSlice S65536x1 ![0, 0] X slices_S65536x2_S65536x1_0_0) shapeCasts_S65536x1_S65536)
    (shapeCast S65536 (extractStridedSlice S65536x1 ![0, 1] X slices_S65536x2_S65536x1_0_1) shapeCasts_S65536x1_S65536)
  funext i
  idx_vars i
  exact RefStages.featuresBack_at X W1 b1 W2 b2 (visits X) σ onto order i0 i1

/-- The second result as the reference computes it from the arguments is the states of all the points. -/
theorem states_eq (X : FVec Ideal S65536x2 .f32) (W1 : FVec Ideal S2x1024 .f32) (b1 : FVec Ideal S1024 .f32)
    (Wl : FVec Ideal S1024x2 .f32) (bl : FVec Ideal S2 .f32) :
    RefStages.statesBack (visits X) (RefStages.stateColumns Wl bl (RefStages.hiddenRows X W1 b1 (visits X)))
      = states X W1 b1 Wl bl := by
  obtain ⟨σ, onto, order⟩ := Order.sort_positions 65536 comparator_f32_f32_i32_d0
    (shapeCast S65536 (extractStridedSlice S65536x1 ![0, 0] X slices_S65536x2_S65536x1_0_0) shapeCasts_S65536x1_S65536)
    (shapeCast S65536 (extractStridedSlice S65536x1 ![0, 1] X slices_S65536x2_S65536x1_0_1) shapeCasts_S65536x1_S65536)
  funext i
  idx_vars i
  exact RefStages.statesBack_at X W1 b1 Wl bl (visits X) σ onto order i0 i1

/-- A run of the reference ends with the features and the states of the points it was given, and its arguments unchanged. -/
theorem run :
    θ_run defs (onTc (τ := τ) (main (F := Ideal))) ⟨m, fun _ => 0, ρ⟩ fun r => ∀ c : Dev nD,
      r.2.mem ((c.tc : Thread nD τ).loc main_v35)
          = features (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_v45)
          = states (m ((c.tc : Thread nD τ).loc main_arg0)) (m ((c.tc : Thread nD τ).loc main_arg1))
              (m ((c.tc : Thread nD τ).loc main_arg2)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c).1.trans (features_eq _ _ _ _ _), (h c).2.1.trans (states_eq _ _ _ _ _), (h c).2.2⟩)
    (Cert.ReferenceIdeal.Value.run (F := Ideal) m ρ)

end Cert.Proof.Reference

end
-- ==== Proof.lean ====
/-
  The certificate's five claims, put together: both programs leave their arguments as they were and every semaphore at zero, the
  kernel read over the extended reals is the kernel's own text, and it ends with the same two arrays as the reference does.
-/
module

public import proofs.«01_k».proof.Defs
public import proofs.«01_k».proof.Proof.Gen.Kernel.Frame
public import proofs.«01_k».proof.Proof.KernelArray
public import proofs.«01_k».proof.Proof.Reference
public import Idealize.ShloMosaic.Adequacy
public import Idealize.ShloMosaic.Init

@[expose] public section

noncomputable section

namespace Cert.Proof

open Idealize.ShloMosaic Idealize.SL.Sem

/-- The reference leaves its arguments as they were and every semaphore at zero: it has no semaphores. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2, sem_eq_zero_of_no_sems (by decide) r.2⟩)
    (Reference.run m ρ)

/-- Over the extended reals the kernel and the reference, given the same arguments, end with equal results: the
    features and the states of all the points. -/
theorem results_equal :
    Cert.algebraic_KernelIdeal_ReferenceIdeal (hKernelIdeal := Cert.KernelIdeal.Gen.facts)
      (hReferenceIdeal := Cert.ReferenceIdeal.Gen.facts) := by
  intro m ρ m' ρ' _ agree
  refine ⟨_, _, KernelArray.run m ρ, (θ_run Cert.ReferenceIdeal.defs _ _).mono (fun r h c => ?_) (Reference.run m' ρ')⟩
  obtain ⟨e0, e1, e2, e3, e4, e5, e6⟩ := agree c
  obtain ⟨hf, hs, args⟩ := h c
  refine ⟨hf.trans ?_, hs.trans ?_, args⟩
  · rw [e0, e1, e2, e3, e4]
  · rw [e0, e1, e2, e5, e6]

/-- All that the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, results_equal⟩

end Cert.Proof

end
